-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_embedding [hPre_finite_embedding : Cert.Pre_finite_embedding.Facts] (m : (ℓ : Loc Cert.KernelIdeal.nD Cert.KernelIdeal.τ Cert.KernelIdeal.sig) → Buf (Elt Ideal) ℓ) : Prop :=
  ∀ c : Dev Cert.KernelIdeal.nD,
    (Cert.Pre_finite_embedding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_embedding [hPre_finite_embedding : Cert.Pre_finite_embedding.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_embedding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_embedding [hKernelIdeal : Cert.KernelIdeal.Facts] [hPre_finite_embedding : Cert.Pre_finite_embedding.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_embedding m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_embedding [hReferenceIdeal : Cert.ReferenceIdeal.Facts] [hPre_finite_embedding : Cert.Pre_finite_embedding.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_embedding m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_n_keep" .f32 0x3BE38E39#32 ((144⁻¹ : ℝ) : EReal)
  ∧ IdealRules.named_const.Statement Cert.KernelIdeal.κ "inv_d_log2e" .f32 0x422D1F97#32 ((30 * (Real.log 2)⁻¹ : ℝ) : EReal)

def algebraic_KernelIdeal_ReferenceIdeal_pre_finite_embedding [hKernelIdeal : Cert.KernelIdeal.Facts] [hReferenceIdeal : Cert.ReferenceIdeal.Facts] [hPre_finite_embedding : Cert.Pre_finite_embedding.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_embedding m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_embedding : Cert.Pre_finite_embedding.Facts),
    quiescent_Kernel (hKernel := hKernel)
    ∧ quiescent_KernelIdeal (hKernelIdeal := hKernelIdeal)
    ∧ quiescent_KernelIdeal_pre_finite_embedding (hKernelIdeal := hKernelIdeal) (hPre_finite_embedding := hPre_finite_embedding)
    ∧ quiescent_ReferenceIdeal (hReferenceIdeal := hReferenceIdeal)
    ∧ quiescent_ReferenceIdeal_pre_finite_embedding (hReferenceIdeal := hReferenceIdeal) (hPre_finite_embedding := hPre_finite_embedding)
    ∧ preserves_Kernel_KernelIdeal
    ∧ algebraic_KernelIdeal_ReferenceIdeal_pre_finite_embedding (hKernelIdeal := hKernelIdeal) (hReferenceIdeal := hReferenceIdeal) (hPre_finite_embedding := hPre_finite_embedding)
-- ==== Pre_finite_embedding.lean ====
abbrev S32x257x768 : Shape := ⟨3, ![32, 257, 768]⟩
abbrev S8192x768 : Shape := ⟨2, ![8192, 768]⟩
abbrev S_ : Shape := ⟨0, ![]⟩

class Facts : Prop where
  bcast_S_S8192x768 : S_.BroadcastsInDim S8192x768 (![] : Fin 0 → Fin S8192x768.rank)

variable [Facts]

def fn {F : FTy → Type} [FloatOps F] (main_arg0 : FVec F S32x257x768 .f32) (main_arg1 : FVec F S8192x768 .f32) : IVec S8192x768 1 :=
  let main_v0 : FVec F S8192x768 .f32 := Host.absf main_arg1
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  main_v2
-- ==== Kernel.lean ====
abbrev S32x257x768 : Shape := ⟨3, ![32, 257, 768]⟩
abbrev S8192x768 : Shape := ⟨2, ![8192, 768]⟩
abbrev S32x256x768 : Shape := ⟨3, ![32, 256, 768]⟩
abbrev S32x256x8192 : Shape := ⟨3, ![32, 256, 8192]⟩
abbrev S32x1x8192 : Shape := ⟨3, ![32, 1, 8192]⟩
abbrev S2x256x768 : Shape := ⟨3, ![2, 256, 768]⟩
abbrev S2x256x8192 : Shape := ⟨3, ![2, 256, 8192]⟩
abbrev S2x1x8192 : Shape := ⟨3, ![2, 1, 8192]⟩
abbrev S256x8192 : Shape := ⟨2, ![256, 8192]⟩
abbrev S1x256 : Shape := ⟨2, ![1, 256]⟩
abbrev S1x256x768 : Shape := ⟨3, ![1, 256, 768]⟩
abbrev S256x768 : Shape := ⟨2, ![256, 768]⟩
abbrev S256 : Shape := ⟨1, ![256]⟩
abbrev S256x1 : Shape := ⟨2, ![256, 1]⟩
abbrev S1024x768 : Shape := ⟨2, ![1024, 768]⟩
abbrev S256x1024 : Shape := ⟨2, ![256, 1024]⟩
abbrev S1x256x1024 : Shape := ⟨3, ![1, 256, 1024]⟩
abbrev S1x1024 : Shape := ⟨2, ![1, 1024]⟩
abbrev S1x8192 : Shape := ⟨2, ![1, 8192]⟩
abbrev S1x1x8192 : Shape := ⟨3, ![1, 1, 8192]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S32x257x768, .f32⟩
  | .hbm, ⟨1, _⟩ => ⟨S8192x768, .f32⟩
  | .hbm, ⟨2, _⟩ => ⟨S32x256x768, .f32⟩
  | .hbm, ⟨3, _⟩ => ⟨S32x256x768, .bf16⟩
  | .hbm, ⟨4, _⟩ => ⟨S8192x768, .bf16⟩
  | .hbm, ⟨5, _⟩ => ⟨S32x256x8192, .f32⟩
  | .hbm, ⟨6, _⟩ => ⟨S32x1x8192, .f32⟩
  | .local _ .vmem, ⟨0, _⟩ => ⟨S2x256x768, .bf16⟩
  | .local _ .vmem, ⟨1, _⟩ => ⟨S2x256x768, .bf16⟩
  | .local _ .vmem, ⟨2, _⟩ => ⟨S8192x768, .bf16⟩
  | .local _ .vmem, ⟨3, _⟩ => ⟨S2x256x8192, .f32⟩
  | .local _ .vmem, ⟨4, _⟩ => ⟨S2x256x8192, .f32⟩
  | .local _ .vmem, ⟨5, _⟩ => ⟨S2x1x8192, .f32⟩
  | .local _ .vmem, ⟨6, _⟩ => ⟨S2x1x8192, .f32⟩
  | .local _ .vmem, ⟨7, _⟩ => ⟨S256x8192, .bf16⟩
  | .local _ .vmem, ⟨8, _⟩ => ⟨S256x8192, .bf16⟩
  | _, _ => ⟨S32x257x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "inv_d_log2e" => some ((30 * (Real.log 2)⁻¹ : ℝ) : EReal)
  | "inv_n_keep" => some ((144⁻¹ : ℝ) : EReal)
  | _ => none
-- ==== ReferenceIdeal.lean ====
abbrev S32x257x768 : Shape := ⟨3, ![32, 257, 768]⟩
abbrev S8192x768 : Shape := ⟨2, ![8192, 768]⟩
abbrev S144 : Shape := ⟨1, ![144]⟩
abbrev S32x256x768 : Shape := ⟨3, ![32, 256, 768]⟩
abbrev S_ : Shape := ⟨0, ![]⟩
abbrev S32x256 : Shape := ⟨2, ![32, 256]⟩
abbrev S32x256x1 : Shape := ⟨3, ![32, 256, 1]⟩
abbrev S768x8192 : Shape := ⟨2, ![768, 8192]⟩
abbrev S32x256x8192 : Shape := ⟨3, ![32, 256, 8192]⟩
abbrev S144x1 : Shape := ⟨2, ![144, 1]⟩
abbrev S32x144x8192 : Shape := ⟨3, ![32, 144, 8192]⟩
abbrev S32x8192 : Shape := ⟨2, ![32, 8192]⟩
abbrev S32 : Shape := ⟨1, ![32]⟩
abbrev S32x1 : Shape := ⟨2, ![32, 1]⟩
abbrev S32x1x8192 : Shape := ⟨3, ![32, 1, 8192]⟩

abbrev nBuf : Space → Nat
  | .hbm => 56
  | .vmem => 0
  | .smem => 0
  | _ => 0

abbrev bufTy : (tb : Table) → Fin (tcTables nBuf tb) → BufTy
  | .hbm, ⟨0, _⟩ => ⟨S32x257x768, .f32⟩
  | .hbm, ⟨1, _⟩ => ⟨S8192x768, .f32⟩
  | .hbm, ⟨2, _⟩ => ⟨S144, .i32⟩
  | .hbm, ⟨3, _⟩ => ⟨S144, .i1⟩
  | .hbm, ⟨4, _⟩ => ⟨S32x256x768, .f32⟩
  | .hbm, ⟨5, _⟩ => ⟨S32x256x768, .f32⟩
  | .hbm, ⟨6, _⟩ => ⟨S_, .f32⟩
  | .hbm, ⟨7, _⟩ => ⟨S32x256, .f32⟩
  | .hbm, ⟨8, _⟩ => ⟨S32x256x1, .f32⟩
  | .hbm, ⟨9, _⟩ => ⟨S32x256x1, .f32⟩
  | .hbm, ⟨10, _⟩ => ⟨S_, .f32⟩
  | .hbm, ⟨11, _⟩ => ⟨S32x256x1, .f32⟩
  | .hbm, ⟨12, _⟩ => ⟨S32x256x1, .f32⟩
  | .hbm, ⟨13, _⟩ => ⟨S32x256x768, .f32⟩
  | .hbm, ⟨14, _⟩ => ⟨S32x256x768, .f32⟩
  | .hbm, ⟨15, _⟩ => ⟨S768x8192, .f32⟩
  | .hbm, ⟨16, _⟩ => ⟨S32x256x8192, .f32⟩
  | .hbm, ⟨17, _⟩ => ⟨S32x256x8192, .f32⟩
  | .hbm, ⟨18, _⟩ => ⟨S_, .f32⟩
  | .hbm, ⟨19, _⟩ => ⟨S32x256x8192, .f32⟩
  | .hbm, ⟨20, _⟩ => ⟨S32x256x8192, .f32⟩
  | .hbm, ⟨21, _⟩ => ⟨S_, .f32⟩
  | .hbm, ⟨22, _⟩ => ⟨S32x256, .f32⟩
  | .hbm, ⟨23, _⟩ => ⟨S_, .f32⟩
  | .hbm, ⟨24, _⟩ => ⟨S32x256, .f32⟩
  | .hbm, ⟨25, _⟩ => ⟨S32x256, .f32⟩
  | .hbm, ⟨26, _⟩ => ⟨S32x256x1, .f32⟩
  | .hbm, ⟨27, _⟩ => ⟨S32x256x8192, .f32⟩
  | .hbm, ⟨28, _⟩ => ⟨S32x256x8192, .f32⟩
  | .hbm, ⟨29, _⟩ => ⟨S32x256x8192, .f32⟩
  | .hbm, ⟨30, _⟩ => ⟨S_, .f32⟩
  | .hbm, ⟨31, _⟩ => ⟨S32x256, .f32⟩
  | .hbm, ⟨32, _⟩ => ⟨S32x256x1, .f32⟩
  | .hbm, ⟨33, _⟩ => ⟨S32x256x8192, .f32⟩
  | .hbm, ⟨34, _⟩ => ⟨S32x256x8192, .f32⟩
  | .hbm, ⟨35, _⟩ => ⟨S_, .i32⟩
  | .hbm, ⟨36, _⟩ => ⟨S144, .i32⟩
  | .hbm, ⟨37, _⟩ => ⟨S144, .i32⟩
  | .hbm, ⟨38, _⟩ => ⟨S144, .i32⟩
  | .hbm, ⟨39, _⟩ => ⟨S144x1, .i32⟩
  | .hbm, ⟨40, _⟩ => ⟨S32x144x8192, .f32⟩
  | .hbm, ⟨41, _⟩ => ⟨S_, .f32⟩
  | .hbm, ⟨42, _⟩ => ⟨S32x8192, .f32⟩
  | .hbm, ⟨43, _⟩ => ⟨S_, .f32⟩
  | .hbm, ⟨44, _⟩ => ⟨S32x8192, .f32⟩
  | .hbm, ⟨45, _⟩ => ⟨S32x8192, .f32⟩
  | .hbm, ⟨46, _⟩ => ⟨S32x8192, .f32⟩
  | .hbm, ⟨47, _⟩ => ⟨S_, .f32⟩
  | .hbm, ⟨48, _⟩ => ⟨S32, .f32⟩
  | .hbm, ⟨49, _⟩ => ⟨S32x1, .f32⟩
  | .hbm, ⟨50, _⟩ => ⟨S_, .f32⟩
  | .hbm, ⟨51, _⟩ => ⟨S32x1, .f32⟩
  | .hbm, ⟨52, _⟩ => ⟨S32x1, .f32⟩
  | .hbm, ⟨53, _⟩ => ⟨S32x8192, .f32⟩
  | .hbm, ⟨54, _⟩ => ⟨S32x8192, .f32⟩
  | .hbm, ⟨55, _⟩ => ⟨S32x1x8192, .f32⟩
  | _, _ => ⟨S32x257x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_cst_10 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Proof.Frames.lean ====
/- The frames and the ledger: each program runs, leaves its arguments as they were and every semaphore counter at zero;
   the idealized kernel is the kernel with two constants named. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite_embedding
public import Idealize.ShloMosaic.Lib.Quiescent

@[expose] public section

noncomputable section

namespace Cert.Proof

open Idealize.ShloMosaic Idealize.ShloMosaic.TcCoe Idealize.SL.Sem

/-- The kernel's frame, on bit patterns. -/
theorem frame_kernel : Cert.quiescent_Kernel := fun m g _ => Cert.Kernel.Gen.frame m g

/-- The idealized kernel's frame, from any memory. -/
theorem frame_ideal : Cert.quiescent_KernelIdeal := fun m g _ => Cert.KernelIdeal.Gen.frame m g

/-- The idealized kernel's frame, from a memory that meets the precondition. -/
theorem frame_ideal_pre : Cert.quiescent_KernelIdeal_pre_finite_embedding := fun m g _ => Cert.KernelIdeal.Gen.frame m g

/-- The reference's run from any memory: its arguments unchanged, its counters at zero (it has no semaphore). -/
theorem frame_reference : Cert.quiescent_ReferenceIdeal := fun m g _ =>
  θ_run_mono (Cert.ReferenceIdeal.Value.run (F := Ideal) m g)
    fun r h => ⟨fun c => (h c).2.2, sem_eq_zero_of_no_sems (by decide) r.2⟩

/-- The same run from a memory that meets the precondition. -/
theorem frame_reference_pre : Cert.quiescent_ReferenceIdeal_pre_finite_embedding := fun m g _ => frame_reference m g trivial

/-- The two named constants: `1 / 144` and `30 / log 2`, each the value of its name. -/
theorem preserves : Cert.preserves_Kernel_KernelIdeal :=
  ⟨IdealRules.named_const.statement Cert.KernelIdeal.κ "inv_n_keep" .f32 0x3BE38E39#32 ((144⁻¹ : ℝ) : EReal) rfl,
    IdealRules.named_const.statement Cert.KernelIdeal.κ "inv_d_log2e" .f32 0x422D1F97#32
      ((30 * (Real.log 2)⁻¹ : ℝ) : EReal) rfl⟩

end Cert.Proof

end
-- ==== Proof.Tiles.lean ====
/- The kernel's body in a vocabulary of its own: what one image's half of a grid point computes, tile by tile, as terms
   over the image's rows and the codewords, at any arithmetic. Eight tiles of 1024 codewords; tile `q` is the codewords
   from `1024 q` on. -/
module

public import proofs.«01_k».proof.Proof.Gen.KernelIdeal.Value
public import Idealize.ShloMosaic.Lib.Pipeline.Value
public import Idealize.ShloMosaic.Lib.Tactic

@[expose] public section

noncomputable section

namespace Cert.Proof.Tiles

open Cert.KernelIdeal Cert.KernelIdeal.Gen
open Idealize.ShloMosaic Idealize.ShloMosaic.TcCoe

variable {F : FTy → Type} [FloatOps F] [Named F]

/-- Tile `q`'s rows of the codewords lie inside them. -/
theorem inRows (q : Fin 8) : ∀ a : Fin 2, (![1024 * q.val, 0] : Fin 2 → ℕ) a + S1024x768.size a ≤ S8192x768.size a := by
  intro a; have := q.isLt
  match a with
  | ⟨0, _⟩ => show 1024 * q.val + 1024 ≤ 8192; omega
  | ⟨1, _⟩ => show 0 + 768 ≤ 768; omega

/-- Tile `q`'s columns of the scratch lie inside it. -/
theorem inCols (q : Fin 8) : ∀ a : Fin 2, (![0, 1024 * q.val] : Fin 2 → ℕ) a + S256x1024.size a ≤ S256x8192.size a := by
  intro a; have := q.isLt
  match a with
  | ⟨0, _⟩ => show 0 + 256 ≤ 256; omega
  | ⟨1, _⟩ => show 1024 * q.val + 1024 ≤ 8192; omega

/-- Tile `q` of image `h`'s codes lies inside the block of codes. -/
theorem inCodes (h : Fin 2) (q : Fin 8) :
    ∀ a : Fin 3, (![h.val, 0, 1024 * q.val] : Fin 3 → ℕ) a + S1x256x1024.size a ≤ S2x256x8192.size a := by
  intro a; have := q.isLt; have := h.isLt
  match a with
  | ⟨0, _⟩ => show h.val + 1 ≤ 2; omega
  | ⟨1, _⟩ => show 0 + 256 ≤ 256; omega
  | ⟨2, _⟩ => show 1024 * q.val + 1024 ≤ 8192; omega

/-- Image `h`'s row of the bags lies inside the block of bags. -/
theorem inBag (h : Fin 2) : ∀ a : Fin 3, (![h.val, 0, 0] : Fin 3 → ℕ) a + S1x1x8192.size a ≤ S2x1x8192.size a := by
  intro a; have := h.isLt
  match a with
  | ⟨0, _⟩ => show h.val + 1 ≤ 2; omega
  | ⟨1, _⟩ => show 0 + 1 ≤ 1; omega
  | ⟨2, _⟩ => show 0 + 8192 ≤ 8192; omega

/-- Image `h`'s patches lie inside the block of patches. -/
theorem inPatches (h : Fin 2) : ∀ a : Fin 3, (![h.val, 0, 0] : Fin 3 → ℕ) a + S1x256x768.size a ≤ S2x256x768.size a := by
  intro a; have := h.isLt
  match a with
  | ⟨0, _⟩ => show h.val + 1 ≤ 2; omega
  | ⟨1, _⟩ => show 0 + 256 ≤ 256; omega
  | ⟨2, _⟩ => show 0 + 768 ≤ 768; omega

/-- The columns of tile `q`, as a rectangle of the scratch. -/
abbrev cols (q : Fin 8) : Rect S256x8192 := Rect.unit ![0, 1024 * q.val] S256x1024.size (inCols q)

/-- Image `h`'s patches in the block of two images. -/
def patches (x : Vec F S2x256x768 .bf16) (h : Fin 2) : Vec F S1x256x768 .bf16 :=
  View.ld x (Rect.unit ![h.val, 0, 0] S1x256x768.size (inPatches h))

/-- Tile `q` of the codewords. -/
def words (w : Vec F S8192x768 .bf16) (q : Fin 8) : Vec F S1024x768 .bf16 :=
  View.ld w (Rect.unit ![1024 * q.val, 0] S1024x768.size (inRows q))

/-- The patches scaled: each row divided by its norm and multiplied by the named constant. -/
def scaled (x : Vec F S1x256x768 .bf16) : FVec F S256x768 .bf16 := k0_pay8 x

/-- The exponentials of one tile of codewords. -/
def expTile (s : FVec F S256x768 .bf16) (w : Vec F S1024x768 .bf16) : FVec F S256x1024 .f32 := k0_pay12 s w

/-- The exponentials as they are kept in the scratch. -/
def keptTile (s : FVec F S256x768 .bf16) (w : Vec F S1024x768 .bf16) : FVec F S256x1024 .bf16 := k0_pay13 s w

/-- The row sums of one tile's exponentials. -/
def sumTile (s : FVec F S256x768 .bf16) (w : Vec F S1024x768 .bf16) : FVec F S256x1 .f32 := k0_pay19 s w

/-- The row sums over all tiles, in the kernel's order. -/
def sums (s : FVec F S256x768 .bf16) (w : Vec F S8192x768 .bf16) : FVec F S256x1 .f32 :=
  addf (addf (addf (addf (addf (addf (addf (addf (broadcast S256x1 (Scalar.ofBits .f32 0x00000000#32))
    (sumTile s (words w 0))) (sumTile s (words w 1))) (sumTile s (words w 2))) (sumTile s (words w 3)))
    (sumTile s (words w 4))) (sumTile s (words w 5))) (sumTile s (words w 6))) (sumTile s (words w 7))

/-- One over the row sums. -/
def recip (s : FVec F S256x768 .bf16) (w : Vec F S8192x768 .bf16) : FVec F S256x1 .f32 :=
  divf (broadcast S256x1 (Scalar.ofBits .f32 0x3F800000#32)) (sums s w)

/-- The scratch after the first pass, as the stores left it, last first. -/
def scratch (s : FVec F S256x768 .bf16) (w : Vec F S8192x768 .bf16) : List (View.Piece (Elt F) S256x8192 .bf16) :=
  [⟨cols 7, keptTile s (words w 7)⟩, ⟨cols 6, keptTile s (words w 6)⟩, ⟨cols 5, keptTile s (words w 5)⟩,
    ⟨cols 4, keptTile s (words w 4)⟩, ⟨cols 3, keptTile s (words w 3)⟩, ⟨cols 2, keptTile s (words w 2)⟩,
    ⟨cols 1, keptTile s (words w 1)⟩, ⟨cols 0, keptTile s (words w 0)⟩]

/-- One tile of codes: the kept exponentials `e` times one over the row sums. -/
def codesTile (r : FVec F S256x1 .f32) (e : Vec F S256x1024 .bf16) : FVec F S1x256x1024 .f32 := k0_pay35 r e

/-- The weight of each patch in the bag: the mask's weight times one over the row sum. -/
def weights (r : FVec F S256x1 .f32) : FVec F S1x256 .bf16 :=
  truncf .bf16 (mulf (k0_pay7 k0_pay3 k0_pay4 k0_pay5 k0_pay6) (shapeCast S1x256 r shapeCasts_S256x1_S1x256)) bitsLt_bf16_f32

/-- One tile of the bag before its normalisation. -/
def bagTile (v : FVec F S1x256 .bf16) (e : Vec F S256x1024 .bf16) : FVec F S1x1024 .f32 := k0_pay36 v e

/-- The bag of eight tiles, normalised. -/
def bag (v : FVec F S1x256 .bf16) (e : Fin 8 → Vec F S256x1024 .bf16) : FVec F S1x1x8192 .f32 :=
  k0_pay2 v (bagTile v (e 0)) (bagTile v (e 1)) (bagTile v (e 2)) (bagTile v (e 3)) (bagTile v (e 4)) (bagTile v (e 5))
    (bagTile v (e 6)) (e 7)

variable {sp : Space} (M : Memref sig .tc sp S256x8192 .bf16)

/-- What the second pass loads of the scratch at tile `q`. -/
def loaded (s : FVec F S256x768 .bf16) (w : Vec F S8192x768 .bf16) (q : Fin 8) : Vec F S256x1024 .bf16 :=
  M.view.readCov (scratch s w) (cols q).toLoadRect

/-- The store of image `h`'s tile `q` of codes. -/
def codesPiece (x : Vec F S2x256x768 .bf16) (w : Vec F S8192x768 .bf16) (h : Fin 2) (q : Fin 8) :
    View.Piece (Elt F) S2x256x8192 .f32 :=
  ⟨Rect.unit ![h.val, 0, 1024 * q.val] S1x256x1024.size (inCodes h q),
    codesTile (recip (scaled (patches x h)) w) (loaded M (scaled (patches x h)) w q)⟩

/-- The store of image `h`'s bag. -/
def bagPiece (x : Vec F S2x256x768 .bf16) (w : Vec F S8192x768 .bf16) (h : Fin 2) : View.Piece (Elt F) S2x1x8192 .f32 :=
  ⟨Rect.unit ![h.val, 0, 0] S1x1x8192.size (inBag h),
    bag (weights (recip (scaled (patches x h)) w)) (loaded M (scaled (patches x h)) w)⟩

end Cert.Proof.Tiles

end
-- ==== Proof.Consts.lean ====
/- The constants of the two programs, as extended reals. -/
module

public import proofs.«01_k».proof.Proof.Gen.KernelIdeal
public import Idealize.ShloMosaic.PureOps.Ideal
public import Idealize.ShloMosaic.PureOps.IdealRules

@[expose] public section

noncomputable section

namespace Cert.Proof

open Idealize.ShloMosaic

/-- Thirty over the logarithm of two: the scale of the exponents of two. -/
def scale : ℝ := 30 * (Real.log 2)⁻¹

/-- The least norm a row is divided by. -/
def leastNorm : EReal := Ideal.ofBits .f32 0x3727C5AC#32

/-- The scale's named constant is the scale. -/
theorem named_scale : Named.named (F := Ideal) Cert.KernelIdeal.κ "inv_d_log2e" (φ := .f32) 0x422D1F97#32 = ((scale : ℝ) : EReal) :=
  IdealRules.named_const.ideal_named_scalar _ _ _ _ rfl

/-- The mask's named constant is one over the number of kept patches. -/
theorem named_inv : Named.named (F := Ideal) Cert.KernelIdeal.κ "inv_n_keep" (φ := .f32) 0x3BE38E39#32 = ((144⁻¹ : ℝ) : EReal) :=
  IdealRules.named_const.ideal_named_scalar _ _ _ _ rfl

/-- The least norm is a positive real. -/
theorem leastNorm_pos : ∃ e : ℝ, 0 < e ∧ leastNorm = (e : EReal) := by
  refine ⟨(2 ^ 23 + 2606508) * 2 ^ (-40 : ℤ), by norm_num, ?_⟩
  simp [leastNorm, Ideal.ofBits, Ideal.ieee, -EReal.coe_mul]
  norm_num

/-- The reference's factor is minus thirty. -/
theorem minus_thirty : Ideal.ofBits .f32 0xC1F00000#32 = ((-30 : ℝ) : EReal) := by
  simp [Ideal.ofBits, Ideal.ieee, -EReal.coe_mul]
  norm_num

/-- The reference's divisor is the number of kept patches. -/
theorem n_kept : Ideal.ofBits .f32 0x43100000#32 = ((144 : ℝ) : EReal) := by
  simp [Ideal.ofBits, Ideal.ieee, -EReal.coe_mul]
  norm_num

/-- The reference's maximum starts at minus infinity. -/
theorem minus_inf : Ideal.ofBits .f32 0xFF800000#32 = ⊥ := by
  simp [Ideal.ofBits, Ideal.ieee]

/-- The precondition's bound is infinity. -/
theorem plus_inf : Ideal.ofBits .f32 0x7F800000#32 = ⊤ := by
  simp [Ideal.ofBits, Ideal.ieee]

end Cert.Proof

end
-- ==== Proof.Model.lean ====
/- One image's codes and bag, as functions of its patches and the codewords: the kernel's way and the reference's way. -/
module

public import proofs.«01_k».proof.Proof.Consts

@[expose] public section

noncomputable section

namespace Cert.Proof

open Idealize.ShloMosaic

/-- Patch `p` is kept: it is two or more away from the border of the sixteen by sixteen patches. -/
def Kept (p : Fin 256) : Prop := (2 ≤ p.val / 16 ∧ p.val / 16 < 14) ∧ 2 ≤ p.val % 16 ∧ p.val % 16 < 14

instance (p : Fin 256) : Decidable (Kept p) := inferInstanceAs (Decidable (_ ∧ _))

/-- The `n`-th kept patch: the twelve by twelve patches that are two or more away from the border. -/
def pick (n : Fin 144) : Fin 256 := ⟨(2 + n.val / 12) * 16 + (2 + n.val % 12), by omega⟩

/-- The tile of codeword `k`: tiles are of 1024 codewords. -/
def tileOf (k : Fin 8192) : Fin 8 := ⟨k.val / 1024, by omega⟩

/-- The place of codeword `k` in its tile. -/
def placeOf (k : Fin 8192) : Fin 1024 := ⟨k.val % 1024, by omega⟩

/-- The codeword at place `j` of tile `q`. -/
def wordOf (q : Fin 8) (j : Fin 1024) : Fin 8192 := ⟨1024 * q.val + j.val, by omega⟩

theorem wordOf_tile (k : Fin 8192) : wordOf (tileOf k) (placeOf k) = k :=
  Fin.ext (by show 1024 * (k.val / 1024) + k.val % 1024 = k.val; omega)

variable (X : Fin 256 → Fin 768 → EReal) (W : Fin 8192 → Fin 768 → EReal)

/-- The norm of a patch, kept away from zero. -/
def norm (p : Fin 256) : EReal := max (Ideal.sqrt (∑ d, X p d * X p d)) leastNorm

/-! ### The kernel's way -/

/-- A patch scaled: divided by its norm and multiplied by the scale. -/
def kUnit (p : Fin 256) (d : Fin 768) : EReal := X p d * Ideal.div ((scale : ℝ) : EReal) (norm X p)

/-- The exponential of one logit less thirty, as a power of two. -/
def kExp (p : Fin 256) (k : Fin 8192) : EReal :=
  Ideal.exp2 (∑ d, kUnit X p d * W k d - ((scale : ℝ) : EReal))

/-- One over the sum of a patch's exponentials, tile by tile. -/
def kRecip (p : Fin 256) : EReal := Ideal.div 1 (∑ q : Fin 8, ∑ j : Fin 1024, kExp X W p (wordOf q j))

/-- A code. -/
def kCode (p : Fin 256) (k : Fin 8192) : EReal := kExp X W p k * kRecip X W p

/-- The bag before its normalisation: the weighted sum of the exponentials over the patches. -/
def kMean (k : Fin 8192) : EReal :=
  ∑ p : Fin 256, ((if Kept p then ((144⁻¹ : ℝ) : EReal) else 0) * kRecip X W p) * kExp X W p k

/-- The sum of a vector's magnitudes, kept away from zero. -/
def mass (b : Fin 8192 → EReal) : EReal := max (∑ k, max (b k) (-b k)) leastNorm

/-- The bag: multiplied by one over its mass. -/
def kBag (k : Fin 8192) : EReal := kMean X W k * Ideal.div 1 (mass (kMean X W))

/-! ### The reference's way -/

/-- A patch divided by its norm. -/
def rUnit (p : Fin 256) (d : Fin 768) : EReal := Ideal.div (X p d) (norm X p)

/-- A logit. -/
def rLogit (p : Fin 256) (k : Fin 8192) : EReal := Ideal.ofBits .f32 0xC1F00000#32 * -∑ d, rUnit X p d * W k d

/-- The largest logit of a patch. -/
def rTop (p : Fin 256) : EReal :=
  max (Ideal.ofBits .f32 0xFF800000#32) (Finset.univ.fold max (Ideal.ofBits .f32 0xFF800000#32) fun k => rLogit X W p k)

/-- The exponential of a logit less the patch's largest. -/
def rExp (p : Fin 256) (k : Fin 8192) : EReal := Ideal.exp (rLogit X W p k - rTop X W p)

/-- A code: the exponential over the patch's sum. -/
def rCode (p : Fin 256) (k : Fin 8192) : EReal := Ideal.div (rExp X W p k) (∑ k', rExp X W p k')

/-- The mean of the kept patches' codes. -/
def rMean (k : Fin 8192) : EReal := Ideal.div (∑ n : Fin 144, rCode X W (pick n) k) (Ideal.ofBits .f32 0x43100000#32)

/-- The bag: the mean over its mass. -/
def rBag (k : Fin 8192) : EReal := Ideal.div (rMean X W k) (mass (rMean X W))

end Cert.Proof

end
-- ==== Proof.Block.lean ====
/- The kernel's tiles read at an index, at extended reals. -/
module

public import proofs.«01_k».proof.Proof.Tiles
public import proofs.«01_k».proof.Proof.Model
public import Idealize.ShloMosaic.Lib.Pointwise

@[expose] public section

noncomputable section

namespace Cert.Proof.Tiles

open Cert.KernelIdeal Cert.KernelIdeal.Gen
open Idealize.ShloMosaic Idealize.ShloMosaic.TcCoe

/-- A scaled patch at an index: the patch times the constant over the row's norm, that norm kept away from zero. -/
theorem scaled_apply (x : Vec Ideal S1x256x768 .bf16) (p : Fin 256) (d : Fin 768) :
    scaled (F := Ideal) x (ix2 p d) = x (ix3 0 p d) * Ideal.div (Named.named (F := Ideal) κ "inv_d_log2e" (φ := .f32) 0x422D1F97#32)
      (max (Ideal.sqrt (∑ d' : Fin 768, x (ix3 0 p d') * x (ix3 0 p d'))) (Ideal.ofBits .f32 0x3727C5AC#32)) := by
  pointwise [scaled, k0_pay8]

/-- An exponential at an index: two to the product of a scaled patch with a codeword, less the constant. -/
theorem expTile_apply (s : FVec Ideal S256x768 .bf16) (w : Vec Ideal S1024x768 .bf16) (p : Fin 256) (k : Fin 1024) :
    expTile (F := Ideal) s w (ix2 p k) = Ideal.exp2 (∑ d : Fin 768, s (ix2 p d) * w (ix2 k d)
      - Named.named (F := Ideal) κ "inv_d_log2e" (φ := .f32) 0x422D1F97#32) := by
  pointwise [expTile, k0_pay12, dot_S256x768_S1024x768_S256x1024_1_1_0_0_n_n]
  rfl

/-- The exponentials kept in the scratch are the exponentials. -/
theorem keptTile_apply (s : FVec Ideal S256x768 .bf16) (w : Vec Ideal S1024x768 .bf16) (p : Fin 256) (k : Fin 1024) :
    keptTile (F := Ideal) s w (ix2 p k) = expTile (F := Ideal) s w (ix2 p k) := by
  pointwise [keptTile, expTile, k0_pay13]

/-- One tile's row sum. -/
theorem sumTile_apply (s : FVec Ideal S256x768 .bf16) (w : Vec Ideal S1024x768 .bf16) (p : Fin 256) :
    sumTile (F := Ideal) s w (ix2 p 0) = ∑ k : Fin 1024, expTile (F := Ideal) s w (ix2 p k) := by
  have h : k0_pay17 s w = k0_pay12 s w := rfl
  pointwise [sumTile, expTile, k0_pay19, h]

/-- One over a row's sum over all eight tiles. -/
theorem recip_apply (s : FVec Ideal S256x768 .bf16) (w : Vec Ideal S8192x768 .bf16) (p : Fin 256) :
    recip (F := Ideal) s w (ix2 p 0)
      = Ideal.div 1 (∑ q : Fin 8, ∑ k : Fin 1024, expTile (F := Ideal) s (words (F := Ideal) w q) (ix2 p k)) := by
  pointwise [recip, sums, sumTile_apply, Fin.sum_univ_eight]

/-- A tile of codes at an index. -/
theorem codesTile_apply (r : FVec Ideal S256x1 .f32) (e : Vec Ideal S256x1024 .bf16) (p : Fin 256) (k : Fin 1024) :
    codesTile (F := Ideal) r e (ix3 0 p k) = e (ix2 p k) * r (ix2 p 0) := by
  pointwise [codesTile, k0_pay35]

/-- A tile of the bag at an index: the weighted sum over the patches. -/
theorem bagTile_apply (v : FVec Ideal S1x256 .bf16) (e : Vec Ideal S256x1024 .bf16) (k : Fin 1024) :
    bagTile (F := Ideal) v e (ix2 0 k) = ∑ p : Fin 256, v (ix2 0 p) * e (ix2 p k) := by
  pointwise [bagTile, k0_pay36, dot_S1x256_S256x1024_S1x1024_1_0_0_1_n_n]

/-- A codeword of tile `q`. -/
theorem words_apply (w : Vec Ideal S8192x768 .bf16) (q : Fin 8) (k : Fin 1024) (d : Fin 768) :
    words (F := Ideal) w q (ix2 k d) = w (ix2 (wordOf q k) d) := by
  pointwise [words]
  rfl

/-- A patch of image `h` of the block. -/
theorem patches_apply (x : Vec Ideal S2x256x768 .bf16) (h : Fin 2) (p : Fin 256) (d : Fin 768) :
    patches (F := Ideal) x h (ix3 0 p d) = x (ix3 h p d) := by
  pointwise [patches]

/-- The kernel's row number of a patch. -/
theorem rowWord (p : Fin 256) : k0_pay3 (ix2 0 p) = BitVec.ofNat 32 (p.val / 16) := by
  pointwise [k0_pay3]
  revert p
  decide +kernel

/-- The kernel's column number of a patch. -/
theorem colWord (p : Fin 256) : k0_pay4 (ix2 0 p) = BitVec.ofNat 32 (p.val % 16) := by
  pointwise [k0_pay4]
  revert p
  decide +kernel

/-- The mask's weight: the named constant on the kept patches, zero on the others. -/
theorem mask_apply (p : Fin 256) : k0_pay7 (F := Ideal) k0_pay3 k0_pay4 k0_pay5 k0_pay6 (ix2 0 p)
    = if Kept p then Named.named (F := Ideal) κ "inv_n_keep" (φ := .f32) 0x3BE38E39#32 else 0 := by
  pointwise [k0_pay7, k0_pay5, k0_pay6, rowWord, colWord]
  rw [Scalar.select_def]
  refine if_congr ?_ rfl rfl
  revert p
  decide +kernel

/-- A patch's weight. -/
theorem weights_apply (r : FVec Ideal S256x1 .f32) (p : Fin 256) :
    weights (F := Ideal) r (ix2 0 p)
      = (if Kept p then Named.named (F := Ideal) κ "inv_n_keep" (φ := .f32) 0x3BE38E39#32 else 0) * r (ix2 p 0) := by
  rw [← mask_apply]
  pointwise [weights]

/-- Eight tiles read one after the other are the tile and the place of the codeword. -/
theorem tiles_chain (f : Fin 8 → Fin 1024 → EReal) (k : Fin 8192) :
    (if h : k.val < 1024 then f 0 ⟨k.val, h⟩
      else if h : k.val - 1024 < 1024 then f 1 ⟨k.val - 1024, h⟩
      else if h : k.val - 1024 - 1024 < 1024 then f 2 ⟨k.val - 1024 - 1024, h⟩
      else if h : k.val - 1024 - 1024 - 1024 < 1024 then f 3 ⟨k.val - 1024 - 1024 - 1024, h⟩
      else if h : k.val - 1024 - 1024 - 1024 - 1024 < 1024 then f 4 ⟨k.val - 1024 - 1024 - 1024 - 1024, h⟩
      else if h : k.val - 1024 - 1024 - 1024 - 1024 - 1024 < 1024 then f 5 ⟨k.val - 1024 - 1024 - 1024 - 1024 - 1024, h⟩
      else if h : k.val - 1024 - 1024 - 1024 - 1024 - 1024 - 1024 < 1024 then
        f 6 ⟨k.val - 1024 - 1024 - 1024 - 1024 - 1024 - 1024, h⟩
      else f 7 ⟨k.val - 1024 - 1024 - 1024 - 1024 - 1024 - 1024 - 1024, by omega⟩) = f (tileOf k) (placeOf k) := by
  have key : ∀ (q : Fin 8) (j : Fin 1024), k.val = 1024 * q.val + j.val → f q j = f (tileOf k) (placeOf k) := fun q j e => by
    rw [show tileOf k = q from Fin.ext (by show k.val / 1024 = q.val; omega),
      show placeOf k = j from Fin.ext (by show k.val % 1024 = j.val; omega)]
  split_ifs <;> refine key _ _ ?_ <;> simp <;> omega

/-- The bag at an index, over its tiles. -/
theorem bag_apply (v : FVec Ideal S1x256 .bf16) (e : Fin 8 → Vec Ideal S256x1024 .bf16) (k : Fin 8192) :
    bag (F := Ideal) v e (ix3 0 0 k)
      = (∑ p : Fin 256, v (ix2 0 p) * e (tileOf k) (ix2 p (placeOf k)))
        * Ideal.div 1 (max (∑ k' : Fin 8192, max (∑ p : Fin 256, v (ix2 0 p) * e (tileOf k') (ix2 p (placeOf k')))
            (-∑ p : Fin 256, v (ix2 0 p) * e (tileOf k') (ix2 p (placeOf k')))) (Ideal.ofBits .f32 0x3727C5AC#32)) := by
  have t := tiles_chain fun q j => ∑ p : Fin 256, v (ix2 0 p) * e q (ix2 p j)
  generalize hR : (∑ p : Fin 256, v (ix2 0 p) * e (tileOf k) (ix2 p (placeOf k))) * _ = R
  pointwise [bag, k0_pay2, dot_S1x256_S256x1024_S1x1024_1_0_0_1_n_n]
  simp only [bagTile_apply, t, Fin.sum_univ_one]
  exact hR

variable {sp : Space} (M : Memref sig .tc sp S256x8192 .bf16)

/-- What the second pass loads of the scratch is what the first pass kept there. -/
theorem loaded_apply (s : FVec Ideal S256x768 .bf16) (w : Vec Ideal S8192x768 .bf16) (q : Fin 8) (p : Fin 256) (k : Fin 1024) :
    loaded (F := Ideal) M s w q (ix2 p k) = expTile (F := Ideal) s (words (F := Ideal) w q) (ix2 p k) := by
  have hq := q.isLt
  unfold loaded
  rw [View.readCov_eq_canon']
  refine (View.canon_apply_of_pieces (fun y : S256x8192.Idx =>
    expTile (F := Ideal) s (words (F := Ideal) w (tileOf (y 1))) (ix2 (y 0) (placeOf (y 1)))) _ ?_ _ ?_).trans ?_
  · intro P hP
    have hr : ∃ r : Fin 8, P = ⟨cols r, keptTile s (words w r)⟩ := by
      simp only [scratch, List.mem_cons, List.not_mem_nil, or_false] at hP
      rcases hP with h | h | h | h | h | h | h | h <;> exact ⟨_, h⟩
    obtain ⟨r, rfl⟩ := hr
    intro (y : S256x1024.Idx)
    obtain ⟨y₀, y₁, rfl⟩ : ∃ y₀ y₁, y = ix2 y₀ y₁ := ⟨y 0, y 1, eq_ix2 y⟩
    have h₁ := y₁.isLt
    have e₀ : ((cols r).emb (ix2 y₀ y₁)) 0 = y₀ := Fin.ext (show 0 + 1 * y₀.val = y₀.val by omega)
    have e₁ : (((cols r).emb (ix2 y₀ y₁)) 1).val = 1024 * r.val + y₁.val := by
      show 1024 * r.val + 1 * y₁.val = _
      omega
    show keptTile s (words w r) (ix2 y₀ y₁) = _
    rw [keptTile_apply, e₀, show tileOf ((cols r).emb (ix2 y₀ y₁) 1) = r from Fin.ext (by unfold tileOf; simp only [e₁]; omega),
      show placeOf ((cols r).emb (ix2 y₀ y₁) 1) = y₁ from Fin.ext (by unfold placeOf; simp only [e₁]; omega)]
  · have hc : (⟨cols q, keptTile s (words w q)⟩ : View.Piece (Elt Ideal) S256x8192 .bf16) ∈ scratch s w := by
      simp only [scratch, List.mem_cons]
      fin_cases q <;> simp
    exact ⟨_, hc, (cols q).idx_mem (ix2 p k)⟩
  · have e₀ : (cols q).toLoadRect.idx (ix2 p k) 0 = p := Fin.ext (show 0 + 1 * p.val = p.val by omega)
    have e₁ : ((cols q).toLoadRect.idx (ix2 p k) 1).val = 1024 * q.val + k.val := by
      show 1024 * q.val + 1 * k.val = _
      omega
    show expTile s (words w (tileOf ((cols q).toLoadRect.idx (ix2 p k) 1)))
      (ix2 ((cols q).toLoadRect.idx (ix2 p k) 0) (placeOf ((cols q).toLoadRect.idx (ix2 p k) 1))) = _
    rw [e₀, show tileOf ((cols q).toLoadRect.idx (ix2 p k) 1) = q from Fin.ext (by unfold tileOf; simp only [e₁]; omega),
      show placeOf ((cols q).toLoadRect.idx (ix2 p k) 1) = k from Fin.ext (by unfold placeOf; simp only [e₁]; omega)]

end Cert.Proof.Tiles

end
-- ==== Proof.Pieces.lean ====
/- The pieces that a grid point's run stores, in the vocabulary of Tiles.lean. -/
module

public import proofs.«01_k».proof.Proof.Tiles

@[expose] public section

set_option maxRecDepth 16384

noncomputable section

namespace Cert.Proof.Tiles

open Cert.KernelIdeal Cert.KernelIdeal.Gen
open Idealize.ShloMosaic Idealize.ShloMosaic.TcCoe

variable {F : FTy → Type} [FloatOps F] [Named F]

variable (c : Dev nD) (i : grid0.Coords) (arg1 : Memref sig .tc .vmem S2x256x768 .bf16) (harg1 : arg1.IsWhole)
  (arg2 : Memref sig .tc .vmem S8192x768 .bf16) (harg2 : arg2.IsWhole) (arg3 : Memref sig .tc .vmem S2x256x8192 .f32)
  (harg3 : arg3.IsWhole) (arg4 : Memref sig .tc .vmem S2x1x8192 .f32) (harg4 : arg4.IsWhole)
  (arg5 : Memref sig .tc .vmem S256x8192 .bf16) (harg5 : arg5.IsWhole) (arg6 : Memref sig .tc .vmem S256x8192 .bf16)
  (harg6 : arg6.IsWhole) (x : Vec F S2x256x768 .bf16) (w : Vec F S8192x768 .bf16)

set_option maxHeartbeats 1000000 in
/-- The stores into the block of codes: two images of eight tiles. -/
theorem codes_pieces :
    (kernelRun0_A c i arg1 harg1 arg2 harg2 arg3 harg3 arg4 harg4 arg5 harg5 arg6 harg6 x w).1
      = [codesPiece arg6 x w 1 7, codesPiece arg6 x w 1 6, codesPiece arg6 x w 1 5, codesPiece arg6 x w 1 4,
        codesPiece arg6 x w 1 3, codesPiece arg6 x w 1 2, codesPiece arg6 x w 1 1, codesPiece arg6 x w 1 0,
        codesPiece arg5 x w 0 7, codesPiece arg5 x w 0 6, codesPiece arg5 x w 0 5, codesPiece arg5 x w 0 4,
        codesPiece arg5 x w 0 3, codesPiece arg5 x w 0 2, codesPiece arg5 x w 0 1, codesPiece arg5 x w 0 0] := by
  unfold kernelRun0_A
  dsimp only
  sl_unfold_words
  simp only [View.readAt_eq_ld, harg1.read_unread, harg2.read_unread]
  rfl

set_option maxHeartbeats 1000000 in
/-- The stores into the block of bags: one row for each of the two images. -/
theorem bag_pieces :
    (kernelRun0_A c i arg1 harg1 arg2 harg2 arg3 harg3 arg4 harg4 arg5 harg5 arg6 harg6 x w).2.1
      = [bagPiece arg6 x w 1, bagPiece arg5 x w 0] := by
  unfold kernelRun0_A
  dsimp only
  sl_unfold_words
  simp only [View.readAt_eq_ld, harg1.read_unread, harg2.read_unread]
  rfl

end Cert.Proof.Tiles

end
-- ==== Proof.Out.lean ====
/- What one grid point writes back, at an index: the codes and the bags of its two images. -/
module

public import proofs.«01_k».proof.Proof.Block
public import proofs.«01_k».proof.Proof.Pieces

@[expose] public section

noncomputable section

namespace Cert.Proof.Tiles

open Cert.KernelIdeal Cert.KernelIdeal.Gen
open Idealize.ShloMosaic Idealize.ShloMosaic.TcCoe

/-- Image `h`'s patches in the block. -/
def blockImage (x : Vec Ideal S2x256x768 .bf16) (h : Fin 2) (p : Fin 256) (d : Fin 768) : EReal := x (ix3 h p d)

/-- The codewords in their block. -/
def blockWords (w : Vec Ideal S8192x768 .bf16) (k : Fin 8192) (d : Fin 768) : EReal := w (ix2 k d)

variable (x : Vec Ideal S2x256x768 .bf16) (w : Vec Ideal S8192x768 .bf16)

/-- The exponentials of image `h`'s tile `q`. -/
theorem exp_eq (h : Fin 2) (q : Fin 8) (p : Fin 256) (j : Fin 1024) :
    expTile (F := Ideal) (scaled (F := Ideal) (patches (F := Ideal) x h)) (words (F := Ideal) w q) (ix2 p j)
      = kExp (blockImage x h) (blockWords w) p (wordOf q j) := by
  simp only [expTile_apply, scaled_apply, patches_apply, words_apply, named_scale]
  rfl

/-- One over the row sums of image `h`. -/
theorem recip_eq (h : Fin 2) (p : Fin 256) :
    recip (F := Ideal) (scaled (F := Ideal) (patches (F := Ideal) x h)) w (ix2 p 0)
      = kRecip (blockImage x h) (blockWords w) p := by
  simp only [recip_apply, exp_eq]
  rfl

variable {sp : Space} (M : Memref sig .tc sp S256x8192 .bf16)

/-- The stored tile of codes at an index. -/
theorem codesPiece_apply (h : Fin 2) (q : Fin 8) (p : Fin 256) (j : Fin 1024) :
    (codesPiece (F := Ideal) M x w h q).2 (ix3 0 p j) = kCode (blockImage x h) (blockWords w) p (wordOf q j) := by
  show codesTile (F := Ideal) _ _ (ix3 0 p j) = _
  rw [codesTile_apply, loaded_apply, exp_eq, recip_eq]
  rfl

/-- The stored row of the bags at an index. -/
theorem bagPiece_apply (h : Fin 2) (k : Fin 8192) :
    (bagPiece (F := Ideal) M x w h).2 (ix3 0 0 k) = kBag (blockImage x h) (blockWords w) k := by
  show bag (F := Ideal) _ _ (ix3 0 0 k) = _
  simp only [bag_apply, weights_apply, loaded_apply, exp_eq, recip_eq, named_inv, wordOf_tile]
  rfl

section Point
variable (c : Dev nD) (i : grid0.Coords) (arg1 : Memref sig .tc .vmem S2x256x768 .bf16) (harg1 : arg1.IsWhole)
  (arg2 : Memref sig .tc .vmem S8192x768 .bf16) (harg2 : arg2.IsWhole) (arg3 : Memref sig .tc .vmem S2x256x8192 .f32) (harg3 : arg3.IsWhole)
  (arg4 : Memref sig .tc .vmem S2x1x8192 .f32) (harg4 : arg4.IsWhole) (arg5 : Memref sig .tc .vmem S256x8192 .bf16) (harg5 : arg5.IsWhole)
  (arg6 : Memref sig .tc .vmem S256x8192 .bf16) (harg6 : arg6.IsWhole)

/-- The block of codes that the point leaves, at an index. -/
theorem out_codes (h : Fin 2) (p : Fin 256) (k : Fin 8192) :
    out0_A_2 (F := Ideal) c i arg1 harg1 arg2 harg2 arg3 harg3 arg4 harg4 arg5 harg5 arg6 harg6 x w (ix3 h p k)
      = kCode (blockImage x h) (blockWords w) p k := by
  unfold out0_A_2
  rw [View.read_writes_junk_eq_canon]
  refine View.canon_apply_of_pieces (Val := Elt Ideal)
    (fun y : S2x256x8192.Idx => kCode (blockImage x (y 0)) (blockWords w) (y 1) (y 2)) _ ?_ _ (cover0_A_2 ..)
  intro P hP
  have hq : ∃ (sp : Space) (M : Memref sig .tc sp S256x8192 .bf16) (h : Fin 2) (q : Fin 8), P = codesPiece (F := Ideal) M x w h q := by
    rw [codes_pieces] at hP
    simp only [List.mem_cons, List.not_mem_nil, or_false] at hP
    rcases hP with e | e | e | e | e | e | e | e | e | e | e | e | e | e | e | e <;> exact ⟨_, _, _, _, e⟩
  obtain ⟨sp, M, h, q, rfl⟩ := hq
  intro (y : S1x256x1024.Idx)
  obtain ⟨y₀, y₁, y₂, rfl⟩ : ∃ y₀ y₁ y₂, y = ix3 y₀ y₁ y₂ := ⟨y 0, y 1, y 2, eq_ix3 y⟩
  obtain rfl : y₀ = 0 := Subsingleton.elim _ _
  have e₀ : (codesPiece (F := Ideal) M x w h q).1.emb (ix3 0 y₁ y₂) 0 = h := Fin.ext (show h.val + 1 * 0 = h.val by omega)
  have e₁ : (codesPiece (F := Ideal) M x w h q).1.emb (ix3 0 y₁ y₂) 1 = y₁ := Fin.ext (show 0 + 1 * y₁.val = y₁.val by omega)
  have e₂ : (codesPiece (F := Ideal) M x w h q).1.emb (ix3 0 y₁ y₂) 2 = wordOf q y₂ :=
    Fin.ext (show 1024 * q.val + 1 * y₂.val = 1024 * q.val + y₂.val by omega)
  show (codesPiece (F := Ideal) M x w h q).2 (ix3 0 y₁ y₂) = _
  rw [codesPiece_apply, e₀, e₁, e₂]

/-- The block of bags that the point leaves, at an index. -/
theorem out_bags (h : Fin 2) (k : Fin 8192) :
    out0_A_3 (F := Ideal) c i arg1 harg1 arg2 harg2 arg3 harg3 arg4 harg4 arg5 harg5 arg6 harg6 x w (ix3 h 0 k)
      = kBag (blockImage x h) (blockWords w) k := by
  unfold out0_A_3
  rw [View.read_writes_junk_eq_canon]
  refine View.canon_apply_of_pieces (Val := Elt Ideal)
    (fun y : S2x1x8192.Idx => kBag (blockImage x (y 0)) (blockWords w) (y 2)) _ ?_ _ (cover0_A_3 ..)
  intro P hP
  have hq : ∃ (sp : Space) (M : Memref sig .tc sp S256x8192 .bf16) (h : Fin 2), P = bagPiece (F := Ideal) M x w h := by
    rw [bag_pieces] at hP
    simp only [List.mem_cons, List.not_mem_nil, or_false] at hP
    rcases hP with e | e <;> exact ⟨_, _, _, e⟩
  obtain ⟨sp, M, h, rfl⟩ := hq
  intro (y : S1x1x8192.Idx)
  obtain ⟨y₀, y₁, y₂, rfl⟩ : ∃ y₀ y₁ y₂, y = ix3 y₀ y₁ y₂ := ⟨y 0, y 1, y 2, eq_ix3 y⟩
  obtain rfl : y₀ = 0 := Subsingleton.elim _ _
  obtain rfl : y₁ = 0 := Subsingleton.elim _ _
  have e₀ : (bagPiece (F := Ideal) M x w h).1.emb (ix3 0 0 y₂) 0 = h := Fin.ext (show h.val + 1 * 0 = h.val by omega)
  have e₂ : (bagPiece (F := Ideal) M x w h).1.emb (ix3 0 0 y₂) 2 = y₂ := Fin.ext (show 0 + 1 * y₂.val = y₂.val by omega)
  show (bagPiece (F := Ideal) M x w h).2 (ix3 0 0 y₂) = _
  rw [bagPiece_apply, e₀, e₂]

end Point

end Cert.Proof.Tiles

end
-- ==== Proof.Ref.lean ====
/- The reference's two results, stage by stage, read at an index. -/
module

public import proofs.«01_k».proof.Proof.Gen.ReferenceIdeal.Run
public import proofs.«01_k».proof.Proof.Model
public import Idealize.ShloMosaic.Lib.Pointwise

@[expose] public section

noncomputable section

namespace Cert.Proof.Ref

open Cert.ReferenceIdeal Cert.ReferenceIdeal.Gen
open Idealize.ShloMosaic Idealize.ShloMosaic.TcCoe Idealize.SL.Sem

/-- The patch rows: every row of an image but its first. -/
def rows (x : FVec Ideal S32x257x768 .f32) : FVec Ideal S32x256x768 .f32 :=
  extractStridedSlice S32x256x768 ![0, 1, 0] x slices_S32x257x768_S32x256x768_0_1_0

/-- The norm of each patch row, kept away from zero. -/
def norms (y : FVec Ideal S32x256x768 .f32) : FVec Ideal S32x256x1 .f32 :=
  maximumf (Host.sqrt (broadcastInDim S32x256x1 ![0, 1] bcast_S32x256_S32x256x1_0_1
    (Host.reduceAdd (mulf y y) (constant S_ .f32 0x00000000#32) reducesTo_S32x256x768_S32x256_d2 h_S_)))
    (broadcastInDim S32x256x1 ![] bcast_S_S32x256x1 (constant S_ .f32 0x3727C5AC#32))

/-- The rows divided by their norms. -/
def units (y : FVec Ideal S32x256x768 .f32) : FVec Ideal S32x256x768 .f32 :=
  Host.divf y (broadcastInDim S32x256x768 ![0, 1, 2] bcast_S32x256x1_S32x256x768_0_1_2 (norms y))

/-- The logits: minus thirty times minus the product of a unit row with a codeword. -/
def logits (u : FVec Ideal S32x256x768 .f32) (w : FVec Ideal S8192x768 .f32) : FVec Ideal S32x256x8192 .f32 :=
  mulf (broadcastInDim S32x256x8192 ![] bcast_S_S32x256x8192 (constant S_ .f32 0xC1F00000#32))
    (Host.negf (Host.dotGeneral dot_S32x256x768_S768x8192_S32x256x8192_2_0_01_1_n_n none u
      (transpose S768x8192 [1, 0] w transposes_S8192x768_S768x8192_1_0)))

/-- The largest logit of each row. -/
def tops (l : FVec Ideal S32x256x8192 .f32) : FVec Ideal S32x256 .f32 :=
  maximumf (broadcastInDim S32x256 ![] bcast_S_S32x256 (constant S_ .f32 0xFF800000#32))
    (Host.reduce FloatOps.maximumf l (constant S_ .f32 0xFF800000#32) reducesTo_S32x256x8192_S32x256_d2 h_S_)

/-- The exponentials of the logits less their row's largest. -/
def exps (l : FVec Ideal S32x256x8192 .f32) : FVec Ideal S32x256x8192 .f32 :=
  Host.exp (subf l (broadcastInDim S32x256x8192 ![0, 1, 2] bcast_S32x256x1_S32x256x8192_0_1_2
    (broadcastInDim S32x256x1 ![0, 1] bcast_S32x256_S32x256x1_0_1 (tops l))))

/-- Each row divided by its sum. -/
def shares (e : FVec Ideal S32x256x8192 .f32) : FVec Ideal S32x256x8192 .f32 :=
  Host.divf e (broadcastInDim S32x256x8192 ![0, 1, 2] bcast_S32x256x1_S32x256x8192_0_1_2
    (broadcastInDim S32x256x1 ![0, 1] bcast_S32x256_S32x256x1_0_1
      (Host.reduceAdd e (constant S_ .f32 0x00000000#32) reducesTo_S32x256x8192_S32x256_d2 h_S_)))

/-- The codes: the softmax of the logits. -/
def codes (x : FVec Ideal S32x257x768 .f32) (w : FVec Ideal S8192x768 .f32) : FVec Ideal S32x256x8192 .f32 :=
  shares (exps (logits (units (rows x)) w))

/-- The numbers of the kept patches, as the gather takes them. -/
def picks : IVec S144x1 32 :=
  broadcastInDim S144x1 ![0] bcast_S144_S144x1_0 (select (constantI S144 1 0#1)
    (addi (fun i => lit0 (S144.rowMajor i)) (broadcastInDim S144 ![] bcast_S_S144 (constantI S_ 32 256#32)))
    (fun i => lit0 (S144.rowMajor i)))

/-- The kept patches' codes. -/
def kept (s : FVec Ideal S32x256x8192 .f32) : FVec Ideal S32x144x8192 .f32 :=
  Host.gather gather_S32x256x8192_S144x1_S32x144x8192_02_1_n_n_1_1_3218192 s picks

/-- Their mean. -/
def means (g : FVec Ideal S32x144x8192 .f32) : FVec Ideal S32x8192 .f32 :=
  Host.divf (Host.reduceAdd g (constant S_ .f32 0x00000000#32) reducesTo_S32x144x8192_S32x8192_d1 h_S_)
    (broadcastInDim S32x8192 ![] bcast_S_S32x8192 (constant S_ .f32 0x43100000#32))

/-- The mean divided by the sum of its magnitudes, that sum kept away from zero. -/
def normed (b : FVec Ideal S32x8192 .f32) : FVec Ideal S32x8192 .f32 :=
  Host.divf b (broadcastInDim S32x8192 ![0, 1] bcast_S32x1_S32x8192_0_1
    (maximumf (broadcastInDim S32x1 ![0] bcast_S32_S32x1_0
      (Host.reduceAdd (Host.absf b) (constant S_ .f32 0x00000000#32) reducesTo_S32x8192_S32_d1 h_S_))
      (broadcastInDim S32x1 ![] bcast_S_S32x1 (constant S_ .f32 0x3727C5AC#32))))

/-- The bag of words of each image. -/
def bag (x : FVec Ideal S32x257x768 .f32) (w : FVec Ideal S8192x768 .f32) : FVec Ideal S32x1x8192 .f32 :=
  shapeCast S32x1x8192 (normed (means (kept (codes x w)))) shapeCasts_S32x8192_S32x1x8192

/-- The reference's second result is the codes of its arguments. -/
theorem res_codes (m : (ℓ : Loc nD τ sig) → Buf (Elt Ideal) ℓ) (c : Dev nD) :
    Value.res_out1 m c = codes (m ((c.tc : Thread nD τ).loc main_arg0)) (m ((c.tc : Thread nD τ).loc main_arg1)) := rfl

/-- The reference's first result is the bags of its arguments. -/
theorem res_bag (m : (ℓ : Loc nD τ sig) → Buf (Elt Ideal) ℓ) (c : Dev nD) :
    Value.res_out0 m c = bag (m ((c.tc : Thread nD τ).loc main_arg0)) (m ((c.tc : Thread nD τ).loc main_arg1)) := rfl

/-- A patch row is the image's next row. -/
theorem rows_apply (x : FVec Ideal S32x257x768 .f32) (b : Fin 32) (p : Fin 256) (d : Fin 768) :
    rows x (ix3 b p d) = x (ix3 b p.succ d) := by
  pointwise [rows]
  exact congrArg x (congrArg (ix3 b · d) (Fin.ext (Nat.add_comm 1 p.val)))

/-- A unit row at an index. -/
theorem units_apply (y : FVec Ideal S32x256x768 .f32) (b : Fin 32) (p : Fin 256) (d : Fin 768) :
    units y (ix3 b p d) = Ideal.div (y (ix3 b p d))
      (max (Ideal.sqrt (∑ d' : Fin 768, y (ix3 b p d') * y (ix3 b p d'))) (Ideal.ofBits .f32 0x3727C5AC#32)) := by
  pointwise [units, norms]

/-- A logit at an index. -/
theorem logits_apply (u : FVec Ideal S32x256x768 .f32) (w : FVec Ideal S8192x768 .f32) (b : Fin 32) (p : Fin 256) (k : Fin 8192) :
    logits u w (ix3 b p k)
      = Ideal.ofBits .f32 0xC1F00000#32 * -∑ d : Fin 768, u (ix3 b p d) * w (ix2 k d) := by
  pointwise [logits, dot_S32x256x768_S768x8192_S32x256x8192_2_0_01_1_n_n]

/-- The host's maximum over the last of three axes, at an index. -/
theorem reduce_max_apply {n₀ n₁ n₂ : ℕ} {u : Shape} (l : (⟨3, ![n₀, n₁, n₂]⟩ : Shape).Idx → EReal) (init : u.Idx → EReal)
    (h : (⟨3, ![n₀, n₁, n₂]⟩ : Shape).ReducesTo [2] ⟨2, ![n₀, n₁]⟩) (hu : 0 < u.numel) (b : Fin n₀) (p : Fin n₁) :
    Host.reduce (FloatOps.maximumf (F := Ideal) (φ := .f32)) l init h hu (ix2 b p)
      = (Finset.univ : Finset (Fin n₂)).fold max (init (Shape.Idx.first hu)) fun k => l (ix3 b p k) := by
  rw [show (FloatOps.maximumf (F := Ideal) (φ := .f32)) = (max : EReal → EReal → EReal) from rfl, Host.reduce_eq_fold,
    Shape.ReducesTo.fold_fiber_r3_a2]
  rfl

/-- The largest logit of a row, as a fold of `max`. -/
theorem tops_apply (l : FVec Ideal S32x256x8192 .f32) (b : Fin 32) (p : Fin 256) :
    tops l (ix2 b p) = max (Ideal.ofBits .f32 0xFF800000#32)
      ((Finset.univ : Finset (Fin 8192)).fold max (Ideal.ofBits .f32 0xFF800000#32) fun k => l (ix3 b p k)) := by
  unfold tops
  rw [maximumf_apply, reduce_max_apply]
  rfl

/-- An exponential at an index. -/
theorem exps_apply (l : FVec Ideal S32x256x8192 .f32) (b : Fin 32) (p : Fin 256) (k : Fin 8192) :
    exps l (ix3 b p k) = Ideal.exp (l (ix3 b p k) - tops l (ix2 b p)) := by
  pointwise [exps]

/-- A code at an index. -/
theorem shares_apply (e : FVec Ideal S32x256x8192 .f32) (b : Fin 32) (p : Fin 256) (k : Fin 8192) :
    shares e (ix3 b p k) = Ideal.div (e (ix3 b p k)) (∑ k' : Fin 8192, e (ix3 b p k')) := by
  pointwise [shares]

/-- The table of the kept patches' numbers, as the gather clamps them. -/
theorem table_eq : ∀ n : Fin 144, min (lit0 n).toInt.toNat 255 = (pick n).val := by decide +kernel

/-- The gather's numbers are the table's. -/
theorem picks_apply (n : Fin 144) : picks (ix2 n 0) = lit0 n := by
  pointwise [picks]
  exact congrArg lit0 (Fin.ext (rowMajor_val1 _))

/-- A kept patch's code is the code of the patch picked. -/
theorem kept_apply (s : FVec Ideal S32x256x8192 .f32) (b : Fin 32) (n : Fin 144) (k : Fin 8192) :
    kept s (ix3 b n k) = s (ix3 b (pick n) k) := by
  unfold kept Host.gather
  refine congrArg s (funext fun a => ?_)
  match a with
  | ⟨0, _⟩ => exact Fin.ext (Nat.zero_add _)
  | ⟨1, _⟩ =>
    refine Fin.ext (Eq.trans ?_ (table_eq n))
    rw [← picks_apply]
    refine congrArg (fun i => min (picks i).toInt.toNat 255) (funext fun e => ?_)
    match e with
    | ⟨0, _⟩ => rfl
    | ⟨1, _⟩ => rfl
  | ⟨2, _⟩ => exact Fin.ext (Nat.zero_add _)

/-- A mean at an index. -/
theorem means_apply (g : FVec Ideal S32x144x8192 .f32) (b : Fin 32) (k : Fin 8192) :
    means g (ix2 b k) = Ideal.div (∑ n : Fin 144, g (ix3 b n k)) (Ideal.ofBits .f32 0x43100000#32) := by
  pointwise [means]

/-- A normalised bag at an index. -/
theorem normed_apply (g : FVec Ideal S32x8192 .f32) (b : Fin 32) (k : Fin 8192) :
    normed g (ix2 b k) = Ideal.div (g (ix2 b k))
      (max (∑ k' : Fin 8192, max (g (ix2 b k')) (-g (ix2 b k'))) (Ideal.ofBits .f32 0x3727C5AC#32)) := by
  pointwise [normed]
  rfl

/-- A bag at an index. -/
theorem bag_apply (x : FVec Ideal S32x257x768 .f32) (w : FVec Ideal S8192x768 .f32) (b : Fin 32) (k : Fin 8192) :
    bag x w (ix3 b 0 k) = normed (means (kept (codes x w))) (ix2 b k) := by
  pointwise [bag]

/-! ### The two results, image by image -/

/-- Image `b`'s patches. -/
def image (x : FVec Ideal S32x257x768 .f32) (b : Fin 32) (p : Fin 256) (d : Fin 768) : EReal := x (ix3 b p.succ d)

/-- The codewords. -/
def words (w : FVec Ideal S8192x768 .f32) (k : Fin 8192) (d : Fin 768) : EReal := w (ix2 k d)

/-- The reference's codes of image `b`. -/
theorem codes_apply (x : FVec Ideal S32x257x768 .f32) (w : FVec Ideal S8192x768 .f32) (b : Fin 32) (p : Fin 256) (k : Fin 8192) :
    codes x w (ix3 b p k) = rCode (image x b) (words w) p k := by
  have hl : ∀ k, logits (units (rows x)) w (ix3 b p k) = rLogit (image x b) (words w) p k := fun k => by
    simp only [logits_apply, units_apply, rows_apply]
    rfl
  have ht : tops (logits (units (rows x)) w) (ix2 b p) = rTop (image x b) (words w) p := by
    simp only [tops_apply, hl]
    rfl
  simp only [codes, shares_apply, exps_apply, hl, ht]
  rfl

/-- The reference's bag of image `b`. -/
theorem bag_image (x : FVec Ideal S32x257x768 .f32) (w : FVec Ideal S8192x768 .f32) (b : Fin 32) (k : Fin 8192) :
    bag x w (ix3 b 0 k) = rBag (image x b) (words w) k := by
  have hm : ∀ k, means (kept (codes x w)) (ix2 b k) = rMean (image x b) (words w) k := fun k => by
    simp only [means_apply, kept_apply, codes_apply]
    rfl
  simp only [bag_apply, normed_apply, hm]
  rfl

end Cert.Proof.Ref

end
-- ==== Proof.Array.lean ====
/- The two result arrays after the idealized kernel's run, at every index: point `t` of the grid works on images `2 t` and
   `2 t + 1`, and the 16 points together write every image's codes and bag. -/
module

public import proofs.«01_k».proof.Proof.Out
public import proofs.«01_k».proof.Proof.Ref
public import proofs.«01_k».proof.Proof.Gen.KernelIdeal.Value

@[expose] public section

noncomputable section

namespace Cert.Proof.Array

open Cert.KernelIdeal Cert.KernelIdeal.Gen Cert.KernelIdeal.Value Cert.Proof.Tiles
open Idealize.ShloMosaic Idealize.ShloMosaic.TcCoe Idealize.SL.Sem

variable (m : (ℓ : Loc nD τ sig) → Buf (Elt Ideal) ℓ) (ρ : Dev nD → PrngReg)

/-- The feature array of a device as launched. -/
abbrev features (c : Dev nD) : Vec Ideal S32x257x768 .f32 := m ((c : Thread nD τ).loc main_arg0)

/-- The embedding array of a device as launched. -/
abbrev embedding (c : Dev nD) : Vec Ideal S8192x768 .f32 := m ((c : Thread nD τ).loc main_arg1)

/-- The image that point `t` has in row `h` of its block. -/
def imageNo (t : Fin cfg0.N) (h : Fin 2) : Fin 32 :=
  ⟨t.val * 2 + h.val, by have ht : t.val < 16 := t.isLt; have hh := h.isLt; omega⟩

/-- The codes of all images. -/
def allCodes (c : Dev nD) : Vec Ideal S32x256x8192 .f32 := fun y =>
  kCode (Ref.image (features m c) (y 0)) (Ref.words (embedding m c)) (y 1) (y 2)

/-- The bags of all images. -/
def allBags (c : Dev nD) : Vec Ideal S32x1x8192 .f32 := fun y =>
  kBag (Ref.image (features m c) (y 0)) (Ref.words (embedding m c)) (y 2)

/-! ## The arrays that the region finds -/

/-- The patches: the features without the first token of each image. -/
theorem patches_found (c : Dev nD) (b : Fin 32) (p : Fin 256) (d : Fin 768) :
    (V m c main_v1 : Vec Ideal S32x256x768 .bf16) (ix3 b p d) = Ref.image (features m c) b p d := by
  entry_read
  pointwise
  refine congrArg (m ((c : Thread nD τ).loc main_arg0)) (funext fun a => Fin.ext ?_)
  match a with
  | ⟨0, _⟩ => rfl
  | ⟨1, _⟩ => show 1 + p.val = p.val + 1; omega
  | ⟨2, _⟩ => rfl

/-- The codewords: the embedding itself. -/
theorem words_found (c : Dev nD) (k : Fin 8192) (d : Fin 768) :
    (V m c main_v2 : Vec Ideal S8192x768 .bf16) (ix2 k d) = Ref.words (embedding m c) k d := by
  entry_read
  pointwise
  rfl

/-! ## The blocks of a grid point -/

/-- The block index of each window at point `t`. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)

/-- Where an index of the patch block lies in the patch array. -/
theorem emb0 (t : Fin cfg0.N) (h : Fin 2) (p : Fin 256) (d : Fin 768) :
    ((cfg0.win 0).blk t).view.emb (ix3 h p d : S2x256x768.Idx) = (ix3 (imageNo t h) p d : S32x256x768.Idx) := by
  obtain ⟨e0, e1, e2⟩ := idx0 t
  funext a; apply Fin.ext
  match a with
  | ⟨0, _⟩ => show win0_0.index t (0 : Fin 3) * 2 + 1 * h.val = t.val * 2 + h.val; omega
  | ⟨1, _⟩ => show win0_0.index t (1 : Fin 3) * 256 + 1 * p.val = p.val; omega
  | ⟨2, _⟩ => show win0_0.index t (2 : Fin 3) * 768 + 1 * d.val = d.val; omega

/-- The block of the codewords is their whole array. -/
theorem emb1 (t : Fin cfg0.N) (k : Fin 8192) (d : Fin 768) :
    ((cfg0.win 1).blk t).view.emb (ix2 k d : S8192x768.Idx) = (ix2 k d : S8192x768.Idx) := by
  obtain ⟨e0, e1⟩ := idx1 t
  funext a; apply Fin.ext
  match a with
  | ⟨0, _⟩ => show win0_1.index t (0 : Fin 2) * 8192 + 1 * k.val = k.val; omega
  | ⟨1, _⟩ => show win0_1.index t (1 : Fin 2) * 768 + 1 * d.val = d.val; omega

/-- Where an index of the block of codes lies in the array of codes. -/
theorem emb2 (t : Fin cfg0.N) (h : Fin 2) (p : Fin 256) (k : Fin 8192) :
    ((cfg0.win 2).blk t).view.emb (ix3 h p k : S2x256x8192.Idx) = (ix3 (imageNo t h) p k : S32x256x8192.Idx) := by
  obtain ⟨e0, e1, e2⟩ := idx2 t
  funext a; apply Fin.ext
  match a with
  | ⟨0, _⟩ => show win0_2.index t (0 : Fin 3) * 2 + 1 * h.val = t.val * 2 + h.val; omega
  | ⟨1, _⟩ => show win0_2.index t (1 : Fin 3) * 256 + 1 * p.val = p.val; omega
  | ⟨2, _⟩ => show win0_2.index t (2 : Fin 3) * 8192 + 1 * k.val = k.val; omega

/-- Where an index of the block of bags lies in the array of bags. -/
theorem emb3 (t : Fin cfg0.N) (h : Fin 2) (k : Fin 8192) :
    ((cfg0.win 3).blk t).view.emb (ix3 h 0 k : S2x1x8192.Idx) = (ix3 (imageNo t h) 0 k : S32x1x8192.Idx) := by
  obtain ⟨e0, e1, e2⟩ := idx3 t
  funext a; apply Fin.ext
  match a with
  | ⟨0, _⟩ => show win0_3.index t (0 : Fin 3) * 2 + 1 * h.val = t.val * 2 + h.val; omega
  | ⟨1, _⟩ => show win0_3.index t (1 : Fin 3) * 1 + 1 * 0 = 0; omega
  | ⟨2, _⟩ => show win0_3.index t (2 : Fin 3) * 8192 + 1 * k.val = k.val; omega

/-- The patches in point `t`'s block are those of its two images. -/
theorem image_read (c : Dev nD) (t : Fin cfg0.N) (h : Fin 2) :
    blockImage (iblk m c 0 t) h = Ref.image (features m c) (imageNo t h) := by
  funext p d
  show V m c main_v1 (((cfg0.win 0).blk t).view.emb (ix3 h p d : S2x256x768.Idx)) = _
  rw [emb0]
  exact patches_found m c _ p d

/-- The codewords in a point's block are the embedding's. -/
theorem words_read (c : Dev nD) (t : Fin cfg0.N) : blockWords (iblk m c 1 t) = Ref.words (embedding m c) := by
  funext k d
  show V m c main_v2 (((cfg0.win 1).blk t).view.emb (ix2 k d : S8192x768.Idx)) = _
  rw [emb1]
  exact words_found m c k d

/-! ## What a point writes back, and the arrays -/

/-- Point `t` writes back its images' part of the codes. -/
theorem flushed_codes (c : Dev nD) (t : Fin cfg0.N) :
    (dats m 0 c).flushed 2 t = ((cfg0.win 2).blk t).view.read (Elt Ideal) (allCodes m c) := by
  rw [flushed2_A]
  funext (y : S2x256x8192.Idx)
  obtain ⟨h, p, k, rfl⟩ : ∃ h p k, y = ix3 h p k := ⟨y 0, y 1, y 2, eq_ix3 y⟩
  show out0_A_2 (F := Ideal) _ _ _ _ _ _ _ _ _ _ _ _ _ _ _ _ (ix3 h p k)
    = allCodes m c (((cfg0.win 2).blk t).view.emb (ix3 h p k : S2x256x8192.Idx))
  rw [emb2, out_codes, image_read, words_read]
  rfl

/-- Point `t` writes back its images' bags. -/
theorem flushed_bags (c : Dev nD) (t : Fin cfg0.N) :
    (dats m 0 c).flushed 3 t = ((cfg0.win 3).blk t).view.read (Elt Ideal) (allBags m c) := by
  rw [flushed3_A]
  funext (y : S2x1x8192.Idx)
  obtain ⟨h, z, k, rfl⟩ : ∃ h z k, y = ix3 h z k := ⟨y 0, y 1, y 2, eq_ix3 y⟩
  obtain rfl : z = 0 := Subsingleton.elim _ _
  show out0_A_3 (F := Ideal) _ _ _ _ _ _ _ _ _ _ _ _ _ _ _ _ (ix3 h 0 k)
    = allBags m c (((cfg0.win 3).blk t).view.emb (ix3 h 0 k : S2x1x8192.Idx))
  rw [emb3, out_bags, image_read, words_read]
  rfl

/-- Each image is some point's. -/
theorem image_of_point (b : Fin 32) : ∃ (t : Fin cfg0.N) (h : Fin 2), imageNo t h = b :=
  ⟨(⟨b.val / 2, by show _ < 16; omega⟩ : Fin cfg0.N), ⟨b.val % 2, by omega⟩, Fin.ext (by show b.val / 2 * 2 + b.val % 2 = b.val; omega)⟩

/-- Every index of the codes lies in some point's block. -/
theorem covered_codes (i : S32x256x8192.Idx) :
    ∃ t : Fin cfg0.N, (cfg0.win 2).flush t = true ∧ i ∈ ((cfg0.win 2).blk t).view.set := by
  obtain ⟨b, p, k, rfl⟩ : ∃ b p k, i = ix3 b p k := ⟨i 0, i 1, i 2, eq_ix3 i⟩
  obtain ⟨t, h, rfl⟩ := image_of_point b
  refine ⟨t, flush0_2 _, ?_⟩
  rw [← emb2]
  exact View.emb_mem_set _ _

/-- Every index of the bags lies in some point's block. -/
theorem covered_bags (i : S32x1x8192.Idx) :
    ∃ t : Fin cfg0.N, (cfg0.win 3).flush t = true ∧ i ∈ ((cfg0.win 3).blk t).view.set := by
  obtain ⟨b, z, k, rfl⟩ : ∃ b z k, i = ix3 b z k := ⟨i 0, i 1, i 2, eq_ix3 i⟩
  obtain rfl : z = 0 := Subsingleton.elim _ _
  obtain ⟨t, h, rfl⟩ := image_of_point b
  refine ⟨t, flush0_3 _, ?_⟩
  rw [← emb3]
  exact View.emb_mem_set _ _

/-- The idealized kernel's run: the codes and the bags of all images, the arguments as launched. -/
theorem run : θ_run defs (onTc (τ := τ) (main (F := Ideal))) ⟨m, fun _ => 0, ρ⟩ fun r => ∀ c : Dev nD,
      r.2.mem ((c : Thread nD τ).loc main_v3_1) = allBags m c
      ∧ r.2.mem ((c : Thread nD τ).loc main_v3_0) = allCodes m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨(h c).2.1.trans ((dats m 0 c).arrAt_eq_of_cover 3 (allBags m c) (fun t _ => flushed_bags m c t) covered_bags),
      (h c).1.trans ((dats m 0 c).arrAt_eq_of_cover 2 (allCodes m c) (fun t _ => flushed_codes m c t) covered_codes),
      (h c).2.2⟩)
    (run_blocks m ρ)

end Cert.Proof.Array

end
-- ==== Proof.Math.lean ====
/- The equation: with real codewords the kernel's codes and bag are the reference's. -/
module

public import proofs.«01_k».proof.Proof.Model

@[expose] public section

noncomputable section

namespace Cert.Proof

open Idealize.ShloMosaic

/-! ### Sums and quotients of reals -/

/-- A sum of reals is real. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The larger of two reals is real. -/
theorem max_coe (a b : ℝ) : max (a : EReal) (b : EReal) = ((max a b : ℝ) : EReal) :=
  (EReal.coe_strictMono.monotone.map_max).symm

/-- A quotient of reals is real. -/
theorem div_coe_coe (a b : ℝ) (h : b ≠ 0) : Ideal.div (a : EReal) (b : EReal) = ((a / b : ℝ) : EReal) := by
  rw [Ideal.div_coe h, ← EReal.coe_mul, mul_one_div]

/-- One over a real is real. -/
theorem one_div_coe (b : ℝ) (h : b ≠ 0) : Ideal.div 1 (b : EReal) = ((1 / b : ℝ) : EReal) :=
  div_coe_coe 1 b h

/-- Over infinity everything is zero. -/
theorem div_top (a : EReal) : Ideal.div a ⊤ = 0 := by
  simp [Ideal.div]

/-! ### The unit rows -/

/-- A sum of squares with an infinite term is infinite. -/
theorem squares_top (x : Fin 768 → EReal) (d : Fin 768) (h : x d = ⊤ ∨ x d = ⊥) : ∑ d, x d * x d = ⊤ := by
  have hp : ∀ i : Fin 768, 0 ≤ x i * x i := fun i => by
    induction x i with
    | bot => simp
    | top => simp
    | coe r => rw [← EReal.coe_mul]; exact_mod_cast mul_self_nonneg r
  have hd : x d * x d = ⊤ := by rcases h with h | h <;> simp [h]
  exact top_le_iff.1 (hd ▸ Finset.single_le_sum (f := fun i => x i * x i) (fun i _ => hp i) (Finset.mem_univ d))

/-- A patch over its norm is real, whatever the patch, and so is the scaled patch: the scale times it. -/
theorem unit_real (X : Fin 256 → Fin 768 → EReal) (p : Fin 256) :
    ∃ u : Fin 768 → ℝ, ∀ d, rUnit X p d = (u d : EReal) ∧ kUnit X p d = ((scale * u d : ℝ) : EReal) := by
  obtain ⟨e, he, hE⟩ := leastNorm_pos
  by_cases h : ∀ d, ∃ r : ℝ, X p d = (r : EReal)
  · choose x hx using h
    have hn : norm X p = ((max (Real.sqrt (∑ d, x d * x d)) e : ℝ) : EReal) := by
      unfold norm
      simp only [hx, ← EReal.coe_mul, sum_coe]
      rw [Ideal.sqrt_coe, if_neg (not_lt.2 (Finset.sum_nonneg fun d _ => mul_self_nonneg (x d))), hE, max_coe]
    have hpos : max (Real.sqrt (∑ d, x d * x d)) e ≠ 0 := ne_of_gt (lt_max_of_lt_right he)
    refine ⟨fun d => x d / max (Real.sqrt (∑ d, x d * x d)) e, fun d => ⟨?_, ?_⟩⟩
    · unfold rUnit
      rw [hn, hx, div_coe_coe _ _ hpos]
    · unfold kUnit
      rw [hn, hx, div_coe_coe _ _ hpos, ← EReal.coe_mul]
      congr 1
      ring
  · have hn : norm X p = ⊤ := by
      push Not at h
      obtain ⟨d, hd⟩ := h
      have : X p d = ⊤ ∨ X p d = ⊥ := by
        induction hX : X p d with
        | bot => exact Or.inr rfl
        | top => exact Or.inl rfl
        | coe r => exact absurd hX (hd r)
      unfold norm
      rw [squares_top _ d this, Ideal.sqrt_top, max_eq_left le_top]
    refine ⟨fun _ => 0, fun d => ⟨?_, ?_⟩⟩
    · unfold rUnit; rw [hn, div_top]; rfl
    · unfold kUnit; rw [hn, div_top, mul_zero, mul_zero]; rfl

/-! ### The codes -/

/-- The scale times the logarithm of two is thirty, so a power of two of scaled numbers is an exponential. -/
theorem exp2_scale (a : ℝ) : Real.rpow 2 (scale * a) = Real.exp (30 * a) := by
  have h2 : Real.log 2 ≠ 0 := (Real.log_pos one_lt_two).ne'
  show (2 : ℝ) ^ (scale * a) = _
  rw [Real.rpow_def_of_pos two_pos]
  congr 1
  unfold scale
  field_simp

/-- A softmax does not change when one number is taken off all its arguments. -/
theorem softmax_shift {ι : Type*} [Fintype ι] (a : ι → ℝ) (c : ℝ) (k : ι) :
    Real.exp (a k - c) / ∑ i, Real.exp (a i - c) = Real.exp (a k) / ∑ i, Real.exp (a i) := by
  simp only [Real.exp_sub, ← Finset.sum_div]
  exact div_div_div_cancel_right₀ (Real.exp_ne_zero c) _ _

/-- The sum tile by tile is the sum over all codewords. -/
theorem sum_tiles (f : Fin 8192 → EReal) : ∑ q : Fin 8, ∑ j : Fin 1024, f (wordOf q j) = ∑ k, f k := by
  have hinv : ∀ z : Fin 8 × Fin 1024, (tileOf (wordOf z.1 z.2), placeOf (wordOf z.1 z.2)) = z := fun z => by
    obtain ⟨q, j⟩ := z
    refine Prod.ext (Fin.ext ?_) (Fin.ext ?_)
    · show (1024 * q.val + j.val) / 1024 = q.val; omega
    · show (1024 * q.val + j.val) % 1024 = j.val; omega
  let E : Fin 8 × Fin 1024 ≃ Fin 8192 :=
    { toFun := fun z => wordOf z.1 z.2, invFun := fun k => (tileOf k, placeOf k), left_inv := hinv, right_inv := wordOf_tile }
  rw [← Fintype.sum_prod_type']
  exact Fintype.sum_equiv E _ _ fun _ => rfl

/-- The largest of reals is real. -/
theorem fold_max_real (f : Fin 8192 → ℝ) : ∃ m : ℝ, max ⊥ (Finset.univ.fold max ⊥ fun k => (f k : EReal)) = (m : EReal) := by
  obtain ⟨k, -, hk⟩ := Finset.exists_mem_eq_sup Finset.univ ⟨(0 : Fin 8192), Finset.mem_univ _⟩ fun k => (f k : EReal)
  exact ⟨f k, (max_eq_right bot_le).trans hk⟩

/-- The codes: real numbers, the same both ways. The kernel's are the product of a real exponential and a real
    reciprocal. -/
theorem codes_real (X : Fin 256 → Fin 768 → EReal) (W : Fin 8192 → Fin 768 → EReal)
    (hW : ∀ k d, ∃ r : ℝ, W k d = (r : EReal)) (p : Fin 256) :
    ∃ (e : Fin 8192 → ℝ) (r : ℝ), kRecip X W p = (r : EReal) ∧ ∀ k, kExp X W p k = (e k : EReal)
      ∧ rCode X W p k = ((e k * r : ℝ) : EReal) := by
  choose w hw using hW
  obtain ⟨u, hu⟩ := unit_real X p
  have hk : ∀ k, kExp X W p k = ((Real.exp (30 * (∑ d, u d * w k d) - 30) : ℝ) : EReal) := fun k => by
    have hs : ∑ d, scale * u d * w k d - scale = scale * (∑ d, u d * w k d - 1) := by
      rw [mul_sub, mul_one, Finset.mul_sum]
      simp only [mul_assoc]
    unfold kExp
    simp only [(hu _).2, hw, ← EReal.coe_mul, sum_coe, ← EReal.coe_sub]
    rw [hs, Ideal.exp2_coe, exp2_scale, mul_sub, mul_one]
  have hl : ∀ k, rLogit X W p k = ((30 * ∑ d, u d * w k d : ℝ) : EReal) := fun k => by
    unfold rLogit
    simp only [(hu _).1, hw, ← EReal.coe_mul, sum_coe, ← EReal.coe_neg, minus_thirty]
    congr 1
    ring
  obtain ⟨m, hm⟩ := fold_max_real fun k => 30 * ∑ d, u d * w k d
  have hr : ∀ k, rExp X W p k = ((Real.exp (30 * (∑ d, u d * w k d) - m) : ℝ) : EReal) := fun k => by
    unfold rExp rTop
    simp only [hl, minus_inf]
    rw [hm, ← EReal.coe_sub, Ideal.exp_coe]
  have hpos : ∀ c : ℝ, ∑ k, Real.exp (30 * (∑ d, u d * w k d) - c) ≠ 0 := fun c =>
    (Finset.sum_pos (fun k _ => Real.exp_pos _) ⟨(0 : Fin 8192), Finset.mem_univ _⟩).ne'
  refine ⟨fun k => Real.exp (30 * (∑ d, u d * w k d) - 30), 1 / ∑ k, Real.exp (30 * (∑ d, u d * w k d) - 30), ?_,
    fun k => ⟨hk k, ?_⟩⟩
  · unfold kRecip
    rw [sum_tiles]
    simp only [hk, sum_coe]
    exact one_div_coe _ (hpos 30)
  · unfold rCode
    simp only [hr, sum_coe]
    rw [div_coe_coe _ _ (hpos m), mul_one_div, softmax_shift (fun k => 30 * ∑ d, u d * w k d) m k,
      softmax_shift (fun k => 30 * ∑ d, u d * w k d) 30 k]

/-- With real codewords the kernel's codes are the reference's. -/
theorem kCode_eq (X : Fin 256 → Fin 768 → EReal) (W : Fin 8192 → Fin 768 → EReal)
    (hW : ∀ k d, ∃ r : ℝ, W k d = (r : EReal)) (p : Fin 256) (k : Fin 8192) : kCode X W p k = rCode X W p k := by
  obtain ⟨e, r, hr, h⟩ := codes_real X W hW p
  unfold kCode
  rw [(h k).1, hr, (h k).2, EReal.coe_mul]

/-! ### The bag -/

/-- The picked patches are the kept ones. -/
theorem pick_image : Finset.univ.image pick = Finset.univ.filter Kept := by decide +kernel

/-- No patch is picked twice. -/
theorem pick_injective : Function.Injective pick := fun a b h => by
  have h' : (2 + a.val / 12) * 16 + (2 + a.val % 12) = (2 + b.val / 12) * 16 + (2 + b.val % 12) := congrArg Fin.val h
  exact Fin.ext (by omega)

/-- The sum over the kept patches is the sum over the picked ones. -/
theorem sum_kept (f : Fin 256 → ℝ) : ∑ p, (if Kept p then f p else 0) = ∑ n, f (pick n) := by
  rw [← Finset.sum_filter, ← pick_image, Finset.sum_image fun _ _ _ _ h => pick_injective h]

/-- The bags before their normalisation: real numbers, the same both ways. -/
theorem means_real (X : Fin 256 → Fin 768 → EReal) (W : Fin 8192 → Fin 768 → EReal)
    (hW : ∀ k d, ∃ r : ℝ, W k d = (r : EReal)) :
    ∃ b : Fin 8192 → ℝ, ∀ k, kMean X W k = (b k : EReal) ∧ rMean X W k = (b k : EReal) := by
  choose e r hr h using codes_real X W hW
  refine ⟨fun k => (∑ n, e (pick n) k * r (pick n)) / 144, fun k => ⟨?_, ?_⟩⟩
  · have ht : ∀ p, ((if Kept p then ((144⁻¹ : ℝ) : EReal) else 0) * kRecip X W p) * kExp X W p k
        = (((if Kept p then e p k * r p else 0) / 144 : ℝ) : EReal) := fun p => by
      rw [hr, (h p k).1]
      split_ifs
      · rw [← EReal.coe_mul, ← EReal.coe_mul]
        congr 1
        ring
      · simp
    unfold kMean
    simp only [ht, sum_coe]
    rw [← Finset.sum_div, sum_kept fun p => e p k * r p]
  · unfold rMean
    simp only [(h _ k).2, sum_coe, n_kept]
    exact div_coe_coe _ _ (by norm_num)

/-- The mass of reals is a positive real. -/
theorem mass_real (b : Fin 8192 → ℝ) : ∃ n : ℝ, n ≠ 0 ∧ mass (fun k => (b k : EReal)) = (n : EReal) := by
  obtain ⟨e, he, hE⟩ := leastNorm_pos
  refine ⟨max (∑ k, max (b k) (-b k)) e, ne_of_gt (lt_max_of_lt_right he), ?_⟩
  unfold mass
  simp only [← EReal.coe_neg, max_coe, sum_coe, hE]

/-- With real codewords the kernel's bag is the reference's. -/
theorem kBag_eq (X : Fin 256 → Fin 768 → EReal) (W : Fin 8192 → Fin 768 → EReal)
    (hW : ∀ k d, ∃ r : ℝ, W k d = (r : EReal)) (k : Fin 8192) : kBag X W k = rBag X W k := by
  obtain ⟨b, h⟩ := means_real X W hW
  have hk : kMean X W = fun k => (b k : EReal) := funext fun k => (h k).1
  have hr : rMean X W = fun k => (b k : EReal) := funext fun k => (h k).2
  obtain ⟨n, hn, hm⟩ := mass_real b
  unfold kBag rBag
  rw [hk, hr, hm, one_div_coe _ hn, div_coe_coe _ _ hn, ← EReal.coe_mul, mul_one_div]

end Cert.Proof

end
-- ==== Proof.Algebraic.lean ====
/- The value claim: with every codeword finite, the idealized kernel and the reference end with the same bags and codes. -/
module

public import proofs.«01_k».proof.Defs
public import proofs.«01_k».proof.Proof.Array
public import proofs.«01_k».proof.Proof.Math
public import proofs.«01_k».proof.Proof.Gen.ReferenceIdeal.Run
public import proofs.«01_k».proof.Proof.Gen.Pre_finite_embedding

@[expose] public section

noncomputable section

namespace Cert.Proof

open Idealize.ShloMosaic Idealize.ShloMosaic.TcCoe Idealize.SL.Sem

/-- A value whose absolute value is below `⊤` is a real number. -/
theorem real_of_abs_lt {a : EReal} (h : max a (-a) < ⊤) : ∃ r : ℝ, a = (r : EReal) := by
  induction a with
  | bot => simp at h
  | top => simp at h
  | coe r => exact ⟨r, rfl⟩

/-- The precondition says that each entry of the embedding is a real number. -/
theorem words_real {m : (ℓ : Loc Cert.KernelIdeal.nD Cert.KernelIdeal.τ Cert.KernelIdeal.sig) → Buf (Elt Ideal) ℓ}
    (hpre : Cert.Pre_KernelIdeal_finite_embedding m) (c : Dev Cert.KernelIdeal.nD) (k : Fin 8192) (d : Fin 768) :
    ∃ r : ℝ, Ref.words (Array.embedding m c) k d = (r : EReal) := by
  refine real_of_abs_lt ?_
  have h := congrFun (hpre c) (ix2 k d)
  unfold Cert.Pre_finite_embedding.fn at h
  dsimp only at h
  have hc : BitVec.ofBool (decide (max (Ref.words (Array.embedding m c) k d) (-Ref.words (Array.embedding m c) k d)
      < Ideal.ofBits .f32 0x7F800000#32)) = 1#1 :=
    (Ideal.cmp_olt ..).symm.trans h
  rw [plus_inf] at hc
  by_contra hn
  rw [decide_eq_false hn] at hc
  exact absurd hc (by decide)

/-- The bags of the kernel are the reference's. -/
theorem bags_eq {m : (ℓ : Loc Cert.KernelIdeal.nD Cert.KernelIdeal.τ Cert.KernelIdeal.sig) → Buf (Elt Ideal) ℓ}
    (hpre : Cert.Pre_KernelIdeal_finite_embedding m) (c : Dev Cert.KernelIdeal.nD) :
    Ref.bag (Array.features m c) (Array.embedding m c) = Array.allBags m c := by
  funext (y : Cert.KernelIdeal.S32x1x8192.Idx)
  obtain ⟨b, z, k, rfl⟩ : ∃ b z k, y = ix3 b z k := ⟨y 0, y 1, y 2, eq_ix3 y⟩
  obtain rfl : z = 0 := Subsingleton.elim _ _
  rw [Ref.bag_image]
  exact (kBag_eq _ _ (words_real hpre c) k).symm

/-- The codes of the kernel are the reference's. -/
theorem codes_eq {m : (ℓ : Loc Cert.KernelIdeal.nD Cert.KernelIdeal.τ Cert.KernelIdeal.sig) → Buf (Elt Ideal) ℓ}
    (hpre : Cert.Pre_KernelIdeal_finite_embedding m) (c : Dev Cert.KernelIdeal.nD) :
    Ref.codes (Array.features m c) (Array.embedding m c) = Array.allCodes m c := by
  funext (y : Cert.KernelIdeal.S32x256x8192.Idx)
  obtain ⟨b, p, k, rfl⟩ : ∃ b p k, y = ix3 b p k := ⟨y 0, y 1, y 2, eq_ix3 y⟩
  rw [Ref.codes_apply]
  exact (kCode_eq _ _ (words_real hpre c) p k).symm

/-- From memories that agree on the arguments, with the codewords finite: both programs end with the same bags and codes. -/
theorem algebraic : Cert.algebraic_KernelIdeal_ReferenceIdeal_pre_finite_embedding := by
  intro m g m' g' hpre hargs
  refine ⟨Array.allBags m, Array.allCodes m, Array.run m g, ?_⟩
  refine θ_run_mono (Cert.ReferenceIdeal.Value.run (F := Ideal) m' g') fun r h c => ⟨?_, ?_, (h c).2.2⟩
  · refine (h c).1.trans ((Ref.res_bag m' c).trans ?_)
    rw [(hargs c).1, (hargs c).2]
    exact bags_eq hpre c
  · refine (h c).2.1.trans ((Ref.res_codes m' c).trans ?_)
    rw [(hargs c).1, (hargs c).2]
    exact codes_eq hpre c

end Cert.Proof

end
-- ==== Proof.lean ====
module

public import proofs.«01_k».proof.Proof.Frames
public import proofs.«01_k».proof.Proof.Algebraic
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_embedding
public import proofs.«01_k».proof.Proof.Gen.KernelIdeal.Value
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Pre_finite_embedding.Gen.facts,
    frame_kernel, frame_ideal, frame_ideal_pre, frame_reference, frame_reference_pre, preserves, algebraic⟩

end Cert.Proof

end
